-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S128x16 : Shape := ⟨2, ![128, 16]⟩
abbrev S32768 : Shape := ⟨1, ![32768]⟩
abbrev S4x16 : Shape := ⟨2, ![4, 16]⟩
abbrev S_ : Shape := ⟨0, ![]⟩
abbrev S1x32768 : Shape := ⟨2, ![1, 32768]⟩
abbrev S16 : Shape := ⟨1, ![16]⟩
abbrev S1x16 : Shape := ⟨2, ![1, 16]⟩
abbrev S1x1 : Shape := ⟨2, ![1, 1]⟩
abbrev S128 : Shape := ⟨1, ![128]⟩
abbrev S1x128 : Shape := ⟨2, ![1, 128]⟩
abbrev S1 : Shape := ⟨1, ![1]⟩

abbrev nBuf : Table → Nat
  | .hbm => 5
  | .local .tc .vmem => 1
  | .local .tc .smem => 1
  | .local .scVector .vmem => 3
  | _ => 0

abbrev bufTy : (tb : Table) → Fin (nBuf tb) → BufTy
  | .hbm, ⟨0, _⟩ => ⟨S128x32768, .f32⟩
  | .hbm, ⟨1, _⟩ => ⟨S128x32768, .f32⟩
  | .hbm, ⟨2, _⟩ => ⟨S128x16, .f32⟩
  | .hbm, ⟨3, _⟩ => ⟨S1x1, .f32⟩
  | .hbm, ⟨4, _⟩ => ⟨S_, .f32⟩
  | .local .tc .vmem, ⟨0, _⟩ => ⟨S128x16, .f32⟩
  | .local .tc .smem, ⟨0, _⟩ => ⟨S1x1, .f32⟩
  | .local .scVector .vmem, ⟨0, _⟩ => ⟨S32768, .f32⟩
  | .local .scVector .vmem, ⟨1, _⟩ => ⟨S32768, .f32⟩
  | .local .scVector .vmem, ⟨2, _⟩ => ⟨S4x16, .f32⟩
  | _, _ => ⟨S128x32768, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_0 : BitVec 32 := 0#32
  ![v3.toNat, 0]
@[reducible] def k0_t1_loop : Scf.Loop 32 :=
  let c0_i32_16 : BitVec 32 := 0#32
  let c256_i32 : BitVec 32 := 256#32
  let v29 : BitVec 32 := Scalar.addi c0_i32_16 c256_i32
  let c1_i32 : BitVec 32 := 1#32
  ⟨c0_i32_16, v29, c1_i32⟩
def k0_off2 (k0_t1 : Fin k0_t1_loop.trips) (c0_i32_90 : BitVec 32) : Fin 1 → Nat :=
  let c0_i32_16 : BitVec 32 := 0#32
  let c1_i32 : BitVec 32 := 1#32
  let arg10 : BitVec 32 := Scf.iv c0_i32_16 c1_i32 k0_t1
  let c128_i32 : BitVec 32 := 128#32
  let v159 : BitVec 32 := Scalar.muli arg10 c128_i32
  let v160 : BitVec 32 := Scalar.addi v159 c0_i32_90
  let v161 : Index := Scalar.indexCast v160
  ![v161.toNat]
@[reducible] def k0_t2_loop : Scf.Loop 32 :=
  let c0_i32_37 : BitVec 32 := 0#32
  let c256_i32_38 : BitVec 32 := 256#32
  let v68 : BitVec 32 := Scalar.addi c0_i32_37 c256_i32_38
  let c1_i32_39 : BitVec 32 := 1#32
  ⟨c0_i32_37, v68, c1_i32_39⟩
def k0_off3 (k0_t2 : Fin k0_t2_loop.trips) (c0_i32_90 : BitVec 32) : Fin 1 → Nat :=
  let c0_i32_37 : BitVec 32 := 0#32
  let c1_i32_39 : BitVec 32 := 1#32
  let arg10 : BitVec 32 := Scf.iv c0_i32_37 c1_i32_39 k0_t2
  let c128_i32 : BitVec 32 := 128#32
  let v159 : BitVec 32 := Scalar.muli arg10 c128_i32
  let v160 : BitVec 32 := Scalar.addi v159 c0_i32_90
  let v161 : Index := Scalar.indexCast v160
  ![v161.toNat]
@[reducible] def k0_t3_loop : Scf.Loop 32 :=
  let c0_i32_61 : BitVec 32 := 0#32
  let c256_i32_62 : BitVec 32 := 256#32
  let v107 : BitVec 32 := Scalar.addi c0_i32_61 c256_i32_62
  let c1_i32_63 : BitVec 32 := 1#32
  ⟨c0_i32_61, v107, c1_i32_63⟩
def k0_off4 (k0_t3 : Fin k0_t3_loop.trips) (c0_i32_90 : BitVec 32) : Fin 1 → Nat :=
  let c0_i32_61 : BitVec 32 := 0#32
  let c1_i32_63 : BitVec 32 := 1#32
  let arg10 : BitVec 32 := Scf.iv c0_i32_61 c1_i32_63 k0_t3
  let c128_i32 : BitVec 32 := 128#32
  let v159 : BitVec 32 := Scalar.muli arg10 c128_i32
  let v160 : BitVec 32 := Scalar.addi v159 c0_i32_90
  let v161 : Index := Scalar.indexCast v160
  ![v161.toNat]
@[reducible] def k0_t4_loop : Scf.Loop 32 :=
  let c0_i32_84 : BitVec 32 := 0#32
  let c256_i32_85 : BitVec 32 := 256#32
  let v146 : BitVec 32 := Scalar.addi c0_i32_84 c256_i32_85
  let c1_i32_86 : BitVec 32 := 1#32
  ⟨c0_i32_84, v146, c1_i32_86⟩
def k0_off5 (k0_t4 : Fin k0_t4_loop.trips) (c0_i32_90 : BitVec 32) : Fin 1 → Nat :=
  let c0_i32_84 : BitVec 32 := 0#32
  let c1_i32_86 : BitVec 32 := 1#32
  let arg10 : BitVec 32 := Scf.iv c0_i32_84 c1_i32_86 k0_t4
  let c128_i32 : BitVec 32 := 128#32
  let v159 : BitVec 32 := Scalar.muli arg10 c128_i32
  let v160 : BitVec 32 := Scalar.addi v159 c0_i32_90
  let v161 : Index := Scalar.indexCast v160
  ![v161.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_90_r0 : BitVec 32 := 0#32
  ![v2.toNat, 0]
abbrev grid1 : Pipeline.Grid := .none

abbrev stage1_0 : Fin 1 → Memref sig .tc .vmem S128x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S128x1 : Shape := ⟨2, ![128, 1]⟩
abbrev S128 : Shape := ⟨1, ![128]⟩

abbrev nBuf : Space → Nat
  | .hbm => 29
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S_, .f32⟩
  | .hbm, ⟨3, _⟩ => ⟨S128x32768, .f32⟩
  | .hbm, ⟨4, _⟩ => ⟨S128x32768, .i1⟩
  | .hbm, ⟨5, _⟩ => ⟨S128x32768, .f32⟩
  | .hbm, ⟨6, _⟩ => ⟨S_, .f32⟩
  | .hbm, ⟨7, _⟩ => ⟨S128x32768, .f32⟩
  | .hbm, ⟨8, _⟩ => ⟨S128x32768, .f32⟩
  | .hbm, ⟨9, _⟩ => ⟨S128x32768, .f32⟩
  | .hbm, ⟨10, _⟩ => ⟨S_, .f32⟩
  | .hbm, ⟨11, _⟩ => ⟨S128x32768, .f32⟩
  | .hbm, ⟨12, _⟩ => ⟨S128x32768, .f32⟩
  | .hbm, ⟨13, _⟩ => ⟨S_, .f32⟩
  | .hbm, ⟨14, _⟩ => ⟨S128x32768, .f32⟩
  | .hbm, ⟨15, _⟩ => ⟨S128x32768, .f32⟩
  | .hbm, ⟨16, _⟩ => ⟨S128x1, .f32⟩
  | .hbm, ⟨17, _⟩ => ⟨S128x1, .i32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_values : Ref sig .tc := ⟨.hbm, 16, rfl⟩
abbrev main_indices : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.IdealTile.lean ====
/-
  The task one vector subcore runs, with the values it leaves.
-/
module

public import proofs.«01_k».proof.Defs
public import Idealize.ShloMosaic.Lib.SparseCore.Quiescent
public import Idealize.ShloMosaic.Lib.StableHlo.Run
public import Idealize.ShloMosaic.Lib.ShareLeaves
public import Idealize.ShloMosaic.Lib.Pipeline.Kit
public import Idealize.ShloMosaic.Lib.Pipeline.Value
public import Idealize.ShloMosaic.Lib.Pipeline.ValueKit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the kernels and of the one TensorCore pipeline. -/
abbrev ΛP : Labels := Pipeline.Sig Λ₀ (Fin 1) fun p => (pcfgs (F := F) p).Adm
/-- The SparseCore launch. -/
abbrev K : SparseCore.Cfg τ sig (ΛP (F := F)) 1 := sc (F := F)
/-- The call runs sixteen tasks on each SparseCore. -/
theorem nSub_zero : (K (F := F)).nSub 0 = 16 := rfl
/-- The body table under the launch's. -/
abbrev D [FloatOps F] : Defs nD τ sig (Elt F) (ΛP (F := F)) := Pipeline.defs pcfgs defs₀
/-- No body of the program calls another in a cycle, so no variant is needed. -/
abbrev 𝒱₀ : Variants := Variants.none
/-- The variants under the launch: the bodies' own, and those of the pipeline around them. -/
abbrev 𝒱 : Variants := 𝒱₀.lift
/-- The variant at which a subcore's body starts. -/
abbrev v₀ : 𝒱.V := Sum.inl none

/-- The launch's semaphores are distinct and unscoped, and no buffer of a SparseCore is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds; -/
abbrev UH : Type := URounds (GSem nD τ sig) ℕ
/-- the TensorCore pipeline's rounds; -/
abbrev UP : Type := URounds (GSem nD τ sig) Unit
/-- the two beside the transfers' counters. -/
abbrev UU : Type := UH × (UP × Counters)

local notation "𝕄" => MT nD τ sig (HIx 1) (Elt F) ℕ UU ℕ

/-- The handshakes' rounds in the whole algebra. -/
abbrev EH : Emb UH (MT nD τ sig (HIx 1) (Elt F) ℕ UU ℕ) := embL

/-- The pipeline's rounds in the whole algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- The pipeline's rounds lie in the part of the algebra that the proof chooses. -/
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The scores on device `d`. -/
abbrev xLoc (d : Dev nD) : Loc nD τ sig := (SparseCore.T d).loc main_arg0
/-- The labels on device `d`. -/
abbrev yLoc (d : Dev nD) : Loc nD τ sig := (SparseCore.T d).loc main_arg1
/-- The partial maxima on device `d`. -/
abbrev oLoc (d : Dev nD) : Loc nD τ sig := (SparseCore.T d).loc main_v0

/-- The scores, as a subcore sees them. -/
abbrev xV : Memref Cert.KernelIdeal.sig Kind.scVector Space.hbm Cert.KernelIdeal.S128x32768 EltTy.f32 :=
  Memref.whole Cert.KernelIdeal.main_arg0_scv
/-- The labels, as a subcore sees them. -/
abbrev yV : Memref Cert.KernelIdeal.sig Kind.scVector Space.hbm Cert.KernelIdeal.S128x32768 EltTy.f32 :=
  Memref.whole Cert.KernelIdeal.main_arg1_scv
/-- The partial maxima, as a subcore sees them. -/
abbrev oV : Memref Cert.KernelIdeal.sig Kind.scVector Space.hbm Cert.KernelIdeal.S128x16 EltTy.f32 :=
  Memref.whole Cert.KernelIdeal.main_v0_scv
/-- A task's scratch for a row of scores. -/
abbrev sX : Memref Cert.KernelIdeal.sig Kind.scVector Space.vmem Cert.KernelIdeal.S32768 EltTy.f32 :=
  Memref.whole Cert.KernelIdeal.cc0_scratch0
/-- A task's scratch for a row of labels. -/
abbrev sY : Memref Cert.KernelIdeal.sig Kind.scVector Space.vmem Cert.KernelIdeal.S32768 EltTy.f32 :=
  Memref.whole Cert.KernelIdeal.cc0_scratch1
/-- A task's scratch for the partial maxima of its four rows. -/
abbrev sO : Memref Cert.KernelIdeal.sig Kind.scVector Space.vmem Cert.KernelIdeal.S4x16 EltTy.f32 :=
  Memref.whole Cert.KernelIdeal.cc0_scratch2

variable [FloatOps F]

section Tile

variable (d : Dev nD) (L : grid0.Coords)

/-- The SparseCore a task of the grid runs on. -/
abbrev cV (L : grid0.Coords) : Fin τ.nSC := (L 0).castLE hcore0
/-- The subcore a task of the grid runs on. -/
abbrev jV (L : grid0.Coords) : Fin τ.nSub := (L 1).castLE hsub0

/-! ### One trip of a row's loop -/

/-- Sixteen consecutive entries of a row, from entry `b` on (wrapping past the row's end, which no trip reaches). -/
def chunk {α : Type} (f : S32768.Idx → α) (b : ℕ) : S16.Idx → α := fun l =>
  f fun a => match a with | 0 => ⟨(b + (l 0).val) % 32768, Nat.mod_lt _ (show 0 < 32768 by decide)⟩

/-- One accumulator's update: the running maximum with the scores whose label is at least a half, and with zero where it is not. -/
def hinge (a x y : FVec F S16 .f32) : FVec F S16 .f32 :=
  maximumf a (select (cmpf .oge y (broadcast S16 (Scalar.ofBits .f32 0x3F000000#32))) x (broadcast S16 (Scalar.ofBits .f32 0x00000000#32)))

/-- Accumulator `u` after `k` trips over a row's scores `fx` and labels `fy`. -/
def acc (fx fy : S32768.Idx → F .f32) (u : ℕ) : ℕ → FVec F S16 .f32
  | 0 => broadcast S16 (Scalar.ofBits .f32 0xFF800000#32)
  | k + 1 => hinge (acc fx fy u k) (chunk fx (128 * k + 16 * u)) (chunk fy (128 * k + 16 * u))

/-- The eight accumulators after `k` trips. -/
def accs (fx fy : S32768.Idx → F .f32) (k : ℕ) :
    FVec F S16 .f32 × FVec F S16 .f32 × FVec F S16 .f32 × FVec F S16 .f32 × FVec F S16 .f32 × FVec F S16 .f32 × FVec F S16 .f32 × FVec F S16 .f32 :=
  (acc fx fy 0 k, acc fx fy 1 k, acc fx fy 2 k, acc fx fy 3 k, acc fx fy 4 k, acc fx fy 5 k, acc fx fy 6 k, acc fx fy 7 k)

omit [FloatOps F] in
/-- A load of sixteen entries of the scores' scratch reads that chunk of it. -/
theorem readAt_sX (off : Fin 1 → ℕ) (h : ∀ a, off a + S16.size a ≤ S32768.size a) (f : S32768.Idx → F .f32) :
    View.readAt (Elt F) (sX).view (Rect.unit (s := S32768) off S16.size h).toLoadRect f = chunk f (off 0) := by
  funext l
  show f ((Rect.unit (s := S32768) off S16.size h).idx l) = chunk f (off 0) l
  unfold chunk
  congr 1
  funext a
  match a with
  | 0 =>
    have hb := h 0
    have hl : (l 0).val < 16 := (l 0).isLt
    apply Fin.ext
    have hb' : off 0 + 16 ≤ 32768 := hb
    refine Eq.trans ?_ (Nat.mod_eq_of_lt (show off 0 + (l 0).val < 32768 by omega)).symm
    show off 0 + 1 * (l 0).val = off 0 + (l 0).val
    omega

/-- A cast of a vector to its own shape is the vector. -/
theorem shapeCast_S16 (v : FVec F S16 .f32) : shapeCast S16 v shapeCasts_S16_S16 = v :=
  shapeCast_self v _

/-- What a trip computes for one accumulator is `hinge`. -/
theorem pay_trip (a x y : FVec F S16 .f32) : k0_pay61 a x y = hinge a x y := by
  simp only [k0_pay61, hinge, shapeCast_S16]

/-- One accumulator's update with the loads spelt as loads of the scratches. -/
theorem acc_succ (fx fy : S32768.Idx → F .f32) (u k : ℕ) (off : Fin 1 → ℕ) (h : ∀ a, off a + S16.size a ≤ S32768.size a)
    (ho : off = ![128 * k + 16 * u]) :
    k0_pay61 (acc fx fy u k) (View.readAt (Elt F) (sX).view (Rect.unit (s := S32768) off S16.size h).toLoadRect fx)
      (View.readAt (Elt F) (sY).view (Rect.unit (s := S32768) off S16.size h).toLoadRect fy) = acc fx fy u (k + 1) := by
  rw [pay_trip]
  have e : off 0 = 128 * k + 16 * u := by rw [ho]; rfl
  show hinge _ _ (View.readAt (Elt F) (sX).view (Rect.unit (s := S32768) off S16.size h).toLoadRect fy) = _
  rw [readAt_sX, readAt_sX, e]
  rfl

/-- The loop's invariant: the accumulators' values after `k` trips, the row in the two scratches. -/
def inv (fx fy : S32768.Idx → F .f32) (k : ℕ)
    (r : FVec F S16 .f32 × FVec F S16 .f32 × FVec F S16 .f32 × FVec F S16 .f32 × FVec F S16 .f32 × FVec F S16 .f32 × FVec F S16 .f32 × FVec F S16 .f32) : sProp 𝕄 :=
  iprop(⌜r = accs fx fy k⌝ ∗ ((sX).view.loc (V d (cV L) (jV L)) ↦{fullShare} fx) ∗ ((sY).view.loc (V d (cV L) (jV L)) ↦{fullShare} fy))

/-- The invariant at the start: every accumulator at minus infinity. -/
theorem inv_start (fx fy : S32768.Idx → F .f32)
    (r : FVec F S16 .f32 × FVec F S16 .f32 × FVec F S16 .f32 × FVec F S16 .f32 × FVec F S16 .f32 × FVec F S16 .f32 × FVec F S16 .f32 × FVec F S16 .f32)
    (hr : r = accs fx fy 0) :
    iprop(((sX).view.loc (V d (cV L) (jV L)) ↦{fullShare} fx) ∗ ((sY).view.loc (V d (cV L) (jV L)) ↦{fullShare} fy)) ⊢ inv d L fx fy 0 r := by
  unfold inv
  iintro H
  isplitr
  · ipureintro; exact hr
  · iexact H

/-- The invariant at the end: the accumulators after all the trips. -/
theorem inv_end (fx fy : S32768.Idx → F .f32) (k : ℕ) (hk : k = 256)
    (r : FVec F S16 .f32 × FVec F S16 .f32 × FVec F S16 .f32 × FVec F S16 .f32 × FVec F S16 .f32 × FVec F S16 .f32 × FVec F S16 .f32 × FVec F S16 .f32) :
    inv d L fx fy k r
      ⊢ iprop(⌜r = accs fx fy 256⌝ ∗ ((sX).view.loc (V d (cV L) (jV L)) ↦{fullShare} fx) ∗ ((sY).view.loc (V d (cV L) (jV L)) ↦{fullShare} fy)) := by
  subst hk; exact .rfl

/-- One trip: from the accumulators after `k` trips to those after `k + 1`. -/
theorem trip (fx fy : S32768.Idx → F .f32) (k : Fin k0_t1_loop.trips)
    (r : FVec F S16 .f32 × FVec F S16 .f32 × FVec F S16 .f32 × FVec F S16 .f32 × FVec F S16 .f32 × FVec F S16 .f32 × FVec F S16 .f32 × FVec F S16 .f32) :
    inv d L fx fy k.val r
      ⊢ wp frame (wpE (defs₀ (F := F)) 𝒱₀ (V d (cV L) (jV L)) none) Set.univ
          (k0_t1_body L xV (Memref.isWhole_whole _) yV (Memref.isWhole_whole _) oV (Memref.isWhole_whole _)
            sX (Memref.isWhole_whole _) sY (Memref.isWhole_whole _) sO (Memref.isWhole_whole _) cc0_scratch3 cc0_scratch4 cc0_scoped0 k r)
          fun r' => inv d L fx fy (k.val + 1) r' := by
  obtain ⟨a0, a1, a2, a3, a4, a5, a6, a7⟩ := r
  unfold k0_t1_body inv
  iintro ⟨%hr, Hx, Hy⟩
  sl_exec
  sl_step
  isplitr
  rotate_left
  · isplitl [Hx] <;> iassumption
  ipureintro
  simp only [accs, Prod.mk.injEq] at hr
  obtain ⟨rfl, rfl, rfl, rfl, rfl, rfl, rfl, rfl⟩ := hr
  simp only [accs, Prod.mk.injEq]
  refine ⟨?_, ?_, ?_, ?_, ?_, ?_, ?_, ?_⟩
  · exact acc_succ fx fy 0 k.val _ (k0_off2_inb k 0) (k0_off2_eq k 0)
  · exact acc_succ fx fy 1 k.val _ (k0_off2_inb k 1) (k0_off2_eq k 1)
  · exact acc_succ fx fy 2 k.val _ (k0_off2_inb k 2) (k0_off2_eq k 2)
  · exact acc_succ fx fy 3 k.val _ (k0_off2_inb k 3) (k0_off2_eq k 3)
  · exact acc_succ fx fy 4 k.val _ (k0_off2_inb k 4) (k0_off2_eq k 4)
  · exact acc_succ fx fy 5 k.val _ (k0_off2_inb k 5) (k0_off2_eq k 5)
  · exact acc_succ fx fy 6 k.val _ (k0_off2_inb k 6) (k0_off2_eq k 6)
  · exact acc_succ fx fy 7 k.val _ (k0_off2_inb k 7) (k0_off2_eq k 7)

/-! ### A row of an array -/

/-- Row `r` of an array of 128 rows. -/
def rowOf {α : Type} (f : S128x32768.Idx → α) (r : Fin 128) : S32768.Idx → α := fun i =>
  f fun a => match a with | 0 => r | 1 => i 0

/-- The running maximum of the eight accumulators, lane by lane. -/
def fold8 (a : FVec F S16 .f32 × FVec F S16 .f32 × FVec F S16 .f32 × FVec F S16 .f32 × FVec F S16 .f32 × FVec F S16 .f32 × FVec F S16 .f32 × FVec F S16 .f32) :
    FVec F S16 .f32 :=
  maximumf (maximumf (maximumf (maximumf (maximumf (maximumf (maximumf a.1 a.2.1) a.2.2.1) a.2.2.2.1) a.2.2.2.2.1) a.2.2.2.2.2.1) a.2.2.2.2.2.2.1) a.2.2.2.2.2.2.2

/-- The sixteen partial maxima of a row: the eight accumulators after all 256 trips, folded. -/
def rowMax (fx fy : S32768.Idx → F .f32) : FVec F S16 .f32 := fold8 (accs fx fy 256)

/-- The partial maxima of all the rows. -/
def G (d : Dev nD) : Buf (Elt F) (oLoc d) := fun i : S128x16.Idx =>
  rowMax (rowOf (m (xLoc d)) (i 0)) (rowOf (m (yLoc d)) (i 0)) fun a => match a with | 0 => i 1

omit [FloatOps F] in
/-- A one-row slice of an array, read flat, is that row. -/
theorem row_slice (off : Fin 2 → ℕ) (h : ∀ a, off a + S1x32768.size a ≤ S128x32768.size a) (r : Fin 128) (ho : off = ![r.val, 0])
    (f : S128x32768.Idx → F .f32) :
    shapeCast S32768 (fun j : S1x32768.Idx => f ((Rect.unit (s := S128x32768) off S1x32768.size h).idx j)) rfl = rowOf f r := by
  subst ho
  funext i
  refine (shapeCast_dropUnit_apply ![32768] (fun j : S1x32768.Idx => f ((Rect.unit (s := S128x32768) ![r.val, 0] S1x32768.size h).idx j)) rfl i).trans ?_
  unfold rowOf
  congr 1
  funext a
  match a with
  | 0 => exact Fin.ext (by show r.val + 1 * 0 = r.val; omega)
  | 1 => exact Fin.ext (by show 0 + 1 * (i 0).val = (i 0).val; omega)

/-! ### The task -/

/-- The task's number, 0 to 31: two per subcore. -/
abbrev wid (L : grid0.Coords) : Fin 32 := ⟨2 * (L 1).val + (L 0).val, by have h0 : (L 0).val < 2 := (L 0).isLt; have h1 : (L 1).val < 16 := (L 1).isLt; omega⟩

/-- The row of the arrays that the task handles in its phase `r`. -/
abbrev rowIx (L : grid0.Coords) (r : Fin 4) : Fin 128 := ⟨8 * (L 1).val + 4 * (L 0).val + r.val, by have h0 : (L 0).val < 2 := (L 0).isLt; have h1 : (L 1).val < 16 := (L 1).isLt; have := r.isLt; omega⟩

/-- The 128 rows fall into 32 equal parts. -/
theorem hdiv : 32 ∣ S128x16.size 0 := ⟨4, rfl⟩
/-- The four rows of the partial maxima that task `w` writes. -/
abbrev rows (w : Fin 32) : Rect S128x16 := Rect.part (s := S128x16) (a₀ := 0) hdiv w
/-- The entries of those four rows. -/
abbrev rowsSet (w : Fin 32) : Finset S128x16.Idx := ((oV).view.slice (rows w)).set

/-- Task `w`'s share of an array every task reads. -/
abbrev shr (w : Fin 32) : PosShare TreeShare := ShareLeaves.leaf 5 fullShare w

/-- The same rows as the kernel spells them. -/
abbrev rowsK (L : grid0.Coords) : Rect S128x16 := Rect.unit (s := S128x16) (k0_off6 L) S4x16.size (k0_off6_inb L)
/-- The four rows a task writes, as the program slices them. -/
abbrev oK (L : grid0.Coords) : Memref sig .scVector .hbm S4x16 .f32 := (oV).slice (rowsK L) (fun _ => rfl)

omit [FloatOps F] in
/-- The program's slice is the task's four rows. -/
theorem rowsK_eq : rowsK L = rows (wid L) := by
  unfold rowsK rows Rect.part Rect.block
  congr 1 <;> funext a
  · rw [k0_off6_eq]
    match a with
    | 0 => simp [Shape.partIx, Shape.partSize]; omega
    | 1 => simp [Shape.partIx, Shape.partSize]
  · match a with
    | 0 => simp [Shape.partSize]
    | 1 => simp [Shape.partSize]

omit [FloatOps F] in
/-- The program's slice covers the entries of the task's four rows. -/
theorem set_oK : (oK L).view.set = rowsSet (wid L) := by
  show ((oV).view.slice (rowsK L)).set = ((oV).view.slice (rows (wid L))).set
  exact rowsK_eq L ▸ rfl

omit [FloatOps F] in
/-- Holding the program's slice is holding the task's four rows of the partial maxima. -/
theorem pts_oK (f : Buf (Elt F) (oLoc d)) :
    ((oK L).view.loc (V d (cV L) (jV L)) ↦[(oK L).view.set]{fullShare} f : sProp 𝕄) = oLoc d ↦[rowsSet (wid L)]{fullShare} f := by
  rw [set_oK]
omit [FloatOps F] in
/-- Holding a share of the scores, spelt through the subcore's view or by location. -/
theorem pts_xV (q : PosShare TreeShare) (f : Buf (Elt F) (xLoc d)) :
    ((xV).view.loc (V d (cV L) (jV L)) ↦{q} f : sProp 𝕄) = xLoc d ↦{q} f := by
  simp only [Memref.view_whole, View.set_whole]
omit [FloatOps F] in
/-- The same for the labels. -/
theorem pts_yV (q : PosShare TreeShare) (f : Buf (Elt F) (yLoc d)) :
    ((yV).view.loc (V d (cV L) (jV L)) ↦{q} f : sProp 𝕄) = yLoc d ↦{q} f := by
  simp only [Memref.view_whole, View.set_whole]
omit [FloatOps F] in
/-- The same for the scratch of the scores. -/
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
omit [FloatOps F] in
/-- The same for the scratch of the labels. -/
theorem pts_sY (f : Buf (Elt F) ((V d (cV L) (jV L)).loc cc0_scratch1)) :
    ((sY).view.loc (V d (cV L) (jV L)) ↦{fullShare} f : sProp 𝕄) = (V d (cV L) (jV L)).loc cc0_scratch1 ↦{fullShare} f := rfl
omit [FloatOps F] in
/-- The same for the scratch of the partial maxima. -/
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The task's three DMA cells. -/
abbrev cAcell (d : Dev nD) (c : Fin τ.nSC) (i : Fin τ.nSub) : GSem nD τ sig := (V d c i, .dma cc0_scratch3.sem)
/-- The semaphore of the labels' copies. -/
abbrev cBcell (d : Dev nD) (c : Fin τ.nSC) (i : Fin τ.nSub) : GSem nD τ sig := (V d c i, .dma cc0_scratch4.sem)
/-- The semaphore of the copy of the partial maxima. -/
abbrev cCcell (d : Dev nD) (c : Fin τ.nSC) (i : Fin τ.nSub) : GSem nD τ sig := (V d c i, .dma cc0_scoped0.sem)

omit [FloatOps F] in
/-- A task's semaphores at zero: the three of its copies, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase
              (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The task's own buffers are its three scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- What task `w` is handed and hands back: its share of the scores and the labels, and its four rows of the partial maxima at `f`. -/
abbrev goPts (d : Dev nD) (w : Fin 32) (f : Buf (Elt F) (oLoc d)) : sProp 𝕄 :=
  iprop((xLoc d ↦{shr w} m (xLoc d)) ∗ (yLoc d ↦{shr w} m (yLoc d)) ∗ (oLoc d ↦[rowsSet w]{fullShare} f))

/-- A copy of row `r` of the scores into its scratch, as an entailment on what the copy leaves. -/
theorem fetchX (off : Fin 2 → ℕ) (h : ∀ a, off a + S1x32768.size a ≤ S128x32768.size a) (r : Fin 128) (ho : off = ![r.val, 0])
    (f0 : S32768.Idx → F .f32) (v : S32768.Idx → F .f32)
    (hv : v = ReadAs.same.apply (View.read (Elt F)
      (((xV).slice (Rect.unit (s := S128x32768) off S1x32768.size h) (fun _ => rfl)).squeeze S32768 squeezes_S1x32768_S32768).view (m (xLoc d)))) :
    ((sX).view.loc (V d (cV L) (jV L)) ↦{fullShare} View.write (Elt F) (sX).view f0 v Finset.univ : sProp 𝕄)
      ⊢ (sX).view.loc (V d (cV L) (jV L)) ↦{fullShare} rowOf (m (xLoc d)) r := by
  subst hv
  exact Entails.of_eq (congrArg (fun f => ((sX).view.loc (V d (cV L) (jV L)) ↦{fullShare} f : sProp 𝕄))
    ((View.write_whole_univ _ _ _).trans (row_slice off h r ho (m (xLoc d)))))

/-- A copy of row `r` of the labels into its scratch, as an entailment on what the copy leaves. -/
theorem fetchY (off : Fin 2 → ℕ) (h : ∀ a, off a + S1x32768.size a ≤ S128x32768.size a) (r : Fin 128) (ho : off = ![r.val, 0])
    (f0 : S32768.Idx → F .f32) (v : S32768.Idx → F .f32)
    (hv : v = ReadAs.same.apply (View.read (Elt F)
      (((yV).slice (Rect.unit (s := S128x32768) off S1x32768.size h) (fun _ => rfl)).squeeze S32768 squeezes_S1x32768_S32768).view (m (yLoc d)))) :
    ((sY).view.loc (V d (cV L) (jV L)) ↦{fullShare} View.write (Elt F) (sY).view f0 v Finset.univ : sProp 𝕄)
      ⊢ (sY).view.loc (V d (cV L) (jV L)) ↦{fullShare} rowOf (m (yLoc d)) r := by
  subst hv
  exact Entails.of_eq (congrArg (fun f => ((sY).view.loc (V d (cV L) (jV L)) ↦{fullShare} f : sProp 𝕄))
    ((View.write_whole_univ _ _ _).trans (row_slice off h r ho (m (yLoc d)))))

/-- The sixteen partial maxima of row `r` as the one-row payload stored for it. -/
abbrev rowPay (d : Dev nD) (r : Fin 128) : FVec F S1x16 .f32 :=
  shapeCast S1x16 (rowMax (rowOf (m (xLoc d)) r) (rowOf (m (yLoc d)) r)) shapeCasts_S16_S1x16

/-- A row's payload at its entry is the array of partial maxima there. -/
theorem rowPay_apply (r : Fin 128) (x : S1x16.Idx) (i : S128x16.Idx) (h0 : i 0 = r) (h1 : (i 1).val = (x 1).val) :
    rowPay m d r x = G m d i := by
  refine (shapeCast_addUnit_apply ![16] (rowMax (rowOf (m (xLoc d)) r) (rowOf (m (yLoc d)) r)) rfl x).trans ?_
  unfold G
  rw [h0]
  congr 1
  funext a
  match a with
  | 0 => exact Fin.ext h1.symm

/-- The four rows of the scratch, each stored from its payload: entry `y` of the scratch is the partial maximum of the task's rows there. -/
theorem stores_read (f2 : S4x16.Idx → F .f32) (y : S4x16.Idx) (i : S128x16.Idx)
    (h0 : (i 0).val = 8 * (L 1).val + 4 * (L 0).val + (y 0).val) (h1 : (i 1).val = (y 1).val) :
    View.read (Elt F) (sO).view ((sO).view.writes (Elt F) f2
      [⟨Rect.unit ![3, 0] S1x16.size inb_S4x16_S1x16_3_0, rowPay m d (rowIx L 3)⟩,
       ⟨Rect.unit ![2, 0] S1x16.size inb_S4x16_S1x16_2_0, rowPay m d (rowIx L 2)⟩,
       ⟨Rect.unit ![1, 0] S1x16.size inb_S4x16_S1x16_1_0, rowPay m d (rowIx L 1)⟩,
       ⟨Rect.unit ![0, 0] S1x16.size inb_S4x16_S1x16_0_0, rowPay m d (rowIx L 0)⟩]) y = G m d i := by
  have hy : (y 0).val < 4 := (y 0).isLt
  let x : S1x16.Idx := fun a => match a with | 0 => ⟨0, Nat.one_pos⟩ | 1 => y 1
  have key : ∀ r : Fin 4, (y 0).val = r.val → rowPay m d (rowIx L r) x = G m d i := fun r hr =>
    rowPay_apply m d (rowIx L r) x i (Fin.ext (by rw [h0, hr])) h1
  have hcase : (y 0).val = 3 ∨ (y 0).val = 2 ∨ (y 0).val = 1 ∨ (y 0).val = 0 := by omega
  rcases hcase with h | h | h | h
  · exact (View.read_writes_cons_rows_of_mem (sO).view _ (o := 3) _ _ _ y x rfl h rfl).trans (key 3 h)
  · rw [View.read_writes_cons_rows_of_not_mem (sO).view _ (o := 3) (W := 1) _ _ _ y rfl rfl (by omega)]
    exact (View.read_writes_cons_rows_of_mem (sO).view _ (o := 2) _ _ _ y x rfl h rfl).trans (key 2 h)
  · rw [View.read_writes_cons_rows_of_not_mem (sO).view _ (o := 3) (W := 1) _ _ _ y rfl rfl (by omega),
      View.read_writes_cons_rows_of_not_mem (sO).view _ (o := 2) (W := 1) _ _ _ y rfl rfl (by omega)]
    exact (View.read_writes_cons_rows_of_mem (sO).view _ (o := 1) _ _ _ y x rfl h rfl).trans (key 1 h)
  · rw [View.read_writes_cons_rows_of_not_mem (sO).view _ (o := 3) (W := 1) _ _ _ y rfl rfl (by omega),
      View.read_writes_cons_rows_of_not_mem (sO).view _ (o := 2) (W := 1) _ _ _ y rfl rfl (by omega),
      View.read_writes_cons_rows_of_not_mem (sO).view _ (o := 1) (W := 1) _ _ _ y rfl rfl (by omega)]
    exact (View.read_writes_cons_rows_of_mem (sO).view _ (o := 0) _ _ _ y x rfl h rfl).trans (key 0 h)

/-- What the copy out of the scratch leaves in the task's rows of the array: its partial maxima. -/
theorem result (f2 : S4x16.Idx → F .f32) (f : Buf (Elt F) (oLoc d)) (w : S4x16.Idx → F .f32)
    (hw : w = ReadAs.same.apply (View.read (Elt F) (sO).view ((sO).view.writes (Elt F) f2
      [⟨Rect.unit ![3, 0] S1x16.size inb_S4x16_S1x16_3_0, rowPay m d (rowIx L 3)⟩,
       ⟨Rect.unit ![2, 0] S1x16.size inb_S4x16_S1x16_2_0, rowPay m d (rowIx L 2)⟩,
       ⟨Rect.unit ![1, 0] S1x16.size inb_S4x16_S1x16_1_0, rowPay m d (rowIx L 1)⟩,
       ⟨Rect.unit ![0, 0] S1x16.size inb_S4x16_S1x16_0_0, rowPay m d (rowIx L 0)⟩]))) :
    ((oK L).view.loc (V d (cV L) (jV L)) ↦[(oK L).view.set]{fullShare} (oK L).view.writes (Elt F) f [⟨Rect.whole S4x16, w⟩] : sProp 𝕄)
      ⊢ oLoc d ↦[rowsSet (wid L)]{fullShare} G m d := by
  subst hw
  refine Entails.trans (Entails.of_eq ?_) (Entails.of_eq (pts_oK (F := F) d L (G m d)))
  refine pointsTo_congr fun i hi => ?_
  obtain ⟨y, -, rfl⟩ := Finset.mem_map.mp hi
  refine (congrFun (View.read_writes_whole (oK L).view f _) y).trans ?_
  refine stores_read m d L f2 y _ ?_ ?_
  · show (k0_off6 L) 0 + 1 * (y 0).val = _
    rw [k0_off6_eq]
    show 8 * (L 1).val + 4 * (L 0).val + 1 * (y 0).val = _
    omega
  · show (k0_off6 L) 1 + 1 * (y 1).val = _
    rw [k0_off6_eq]
    show 0 + 1 * (y 1).val = _
    omega

/-- The task: from its shares of the scores and labels and its rows of the partial maxima at any contents to the same with its
    rows at the maxima, its scratches and its semaphores given back. -/
theorem tile_body (hF : (K (F := F)).Facts) (O : CellTallies nD τ sig (HIx 1)) (W : Waits sig (HIx 1)) (hO : ∀ g, O g none = 0) :
    iprop(levAts (K (F := F)).L (K (F := F)).lev ∗ emp
        ∗ goPts m d (wid L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hinge_sc L xV (Memref.isWhole_whole _) yV (Memref.isWhole_whole _) oV (Memref.isWhole_whole _)
            sX (Memref.isWhole_whole _) sY (Memref.isWhole_whole _) sO (Memref.isWhole_whole _) cc0_scratch3 cc0_scratch4 cc0_scoped0)
          fun _ => iprop(goPts m d (wid L) (G m d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hy, Ho⟩, ⟨⟨%f0, H0⟩, ⟨%f1, H1⟩, ⟨%f2, H2⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Hy' := (Entails.of_eq (pts_yV (F := F) d L _ _).symm) $$ Hy
  ihave Ho' := (Entails.of_eq (pts_oK (F := F) d L _).symm) $$ Ho
  ihave H0' := (Entails.of_eq (pts_sX (F := F) d L _).symm) $$ H0
  ihave H1' := (Entails.of_eq (pts_sY (F := F) d L _).symm) $$ H1
  ihave H2' := (Entails.of_eq (pts_sO (F := F) d L _).symm) $$ H2
  sl_unfold [cc0__hinge_sc]
  sl_exec (disch := exact View.amount_pos _ _ (show 0 < S32768.numel by decide))
  -- Row 0: its copies have landed; the loop, the fold, the store, and the next row's copies.
  ihave H0 := (fetchX m d L (k0_off1 L 0#32) (k0_off1_inb L 0) (rowIx L 0) (k0_off1_eq L 0) _ (tile_body.sl.dma0 m d L) rfl) $$ H0'
  ihave H1 := (fetchY m d L (k0_off1 L 0#32) (k0_off1_inb L 0) (rowIx L 0) (k0_off1_eq L 0) _ (tile_body.sl.dma0_1 m d L) rfl) $$ H1'
  sl_for (inv d L (rowOf (m (xLoc d)) (rowIx L 0)) (rowOf (m (yLoc d)) (rowIx L 0))) $$ [H0 H1]
  case region => intro k r; exact trip d L _ _ k r
  · iapply (inv_start d L (rowOf (m (xLoc d)) (rowIx L 0)) (rowOf (m (yLoc d)) (rowIx L 0)) _ rfl)
    isplitl [H0] <;> iassumption
  iintro %r0 HI
  ihave HI' := (inv_end d L _ _ _ (by decide) _) $$ HI
  icases HI' with ⟨%hr0, H0, H1⟩
  subst hr0
  sl_exec (disch := exact View.amount_pos _ _ (show 0 < S32768.numel by decide))
  -- Row 1: its copies have landed; the loop, the fold, the store, and the next row's copies.
  ihave H0 := (fetchX m d L (k0_off1 L 1#32) (k0_off1_inb L 1) (rowIx L 1) (k0_off1_eq L 1) _ (tile_body.sl.dma2 m d L) rfl) $$ H0
  ihave H1 := (fetchY m d L (k0_off1 L 1#32) (k0_off1_inb L 1) (rowIx L 1) (k0_off1_eq L 1) _ (tile_body.sl.dma2_1 m d L) rfl) $$ H1
  sl_for (inv d L (rowOf (m (xLoc d)) (rowIx L 1)) (rowOf (m (yLoc d)) (rowIx L 1))) $$ [H0 H1]
  case region => intro k r; exact trip d L _ _ k r
  · iapply (inv_start d L (rowOf (m (xLoc d)) (rowIx L 1)) (rowOf (m (yLoc d)) (rowIx L 1)) _ rfl)
    isplitl [H0] <;> iassumption
  iintro %r1 HI
  ihave HI' := (inv_end d L _ _ _ (by decide) _) $$ HI
  icases HI' with ⟨%hr1, H0, H1⟩
  subst hr1
  sl_exec (disch := exact View.amount_pos _ _ (show 0 < S32768.numel by decide))
  -- Row 2: its copies have landed; the loop, the fold, the store, and the next row's copies.
  ihave H0 := (fetchX m d L (k0_off1 L 2#32) (k0_off1_inb L 2) (rowIx L 2) (k0_off1_eq L 2) _ (tile_body.sl.dma2_2 m d L) rfl) $$ H0
  ihave H1 := (fetchY m d L (k0_off1 L 2#32) (k0_off1_inb L 2) (rowIx L 2) (k0_off1_eq L 2) _ (tile_body.sl.dma2_3 m d L) rfl) $$ H1
  sl_for (inv d L (rowOf (m (xLoc d)) (rowIx L 2)) (rowOf (m (yLoc d)) (rowIx L 2))) $$ [H0 H1]
  case region => intro k r; exact trip d L _ _ k r
  · iapply (inv_start d L (rowOf (m (xLoc d)) (rowIx L 2)) (rowOf (m (yLoc d)) (rowIx L 2)) _ rfl)
    isplitl [H0] <;> iassumption
  iintro %r2 HI
  ihave HI' := (inv_end d L _ _ _ (by decide) _) $$ HI
  icases HI' with ⟨%hr2, H0, H1⟩
  subst hr2
  sl_exec (disch := exact View.amount_pos _ _ (show 0 < S32768.numel by decide))
  -- Row 3: its copies have landed; the loop, the fold, the store, and the next row's copies.
  ihave H0 := (fetchX m d L (k0_off1 L 3#32) (k0_off1_inb L 3) (rowIx L 3) (k0_off1_eq L 3) _ (tile_body.sl.dma2_4 m d L) rfl) $$ H0
  ihave H1 := (fetchY m d L (k0_off1 L 3#32) (k0_off1_inb L 3) (rowIx L 3) (k0_off1_eq L 3) _ (tile_body.sl.dma2_5 m d L) rfl) $$ H1
  sl_for (inv d L (rowOf (m (xLoc d)) (rowIx L 3)) (rowOf (m (yLoc d)) (rowIx L 3))) $$ [H0 H1]
  case region => intro k r; exact trip d L _ _ k r
  · iapply (inv_start d L (rowOf (m (xLoc d)) (rowIx L 3)) (rowOf (m (yLoc d)) (rowIx L 3)) _ rfl)
    isplitl [H0] <;> iassumption
  iintro %r3 HI
  ihave HI' := (inv_end d L _ _ _ (by decide) _) $$ HI
  icases HI' with ⟨%hr3, H0, H1⟩
  subst hr3
  sl_exec (disch := exact View.amount_pos _ _ (show 0 < S32768.numel by decide))
  sl_step
  isplitl [Hx' Hy' Ho']
  · isplitl [Hx']; · iapply (Entails.of_eq (pts_xV (F := F) d L _ _)); iexact Hx'
    isplitl [Hy']; · iapply (Entails.of_eq (pts_yV (F := F) d L _ _)); iexact Hy'
    iapply (result m d L f2 _ (tile_body.sl.dma2_6 m d L f2) rfl); iexact Ho'
  isplitl [H0 H1 H2' Hbufs]
  · isplitl [H0]; · iexists _; iexact H0
    isplitl [H1]; · iexists _; iexact H1
    isplitl [H2']; · iexists _; iexact H2'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p _
  rcases p.2 with _ | q
  · exact .inr (.inl rfl)
  · exact .inr (.inr (congrArg some (Subsingleton.elim q 0)))

end Tile
end Cert.Proof.IdealRun
end
-- ==== Proof.IdealRun.lean ====
/-
  The run of the whole program: the launch of the SparseCore call, the TensorCore's reduction of the partial maxima, and the last
  reshape, with the value the result ends at.
-/
module

public import proofs.«01_k».proof.Proof.IdealTile
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit
public import Idealize.ShloMosaic.Lib.VecWindow

@[expose] public section

noncomputable section

namespace Cert.Proof.IdealRun

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the launch hands each task -/

/-- The grid's coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of subcore `i`'s task on core `c`. -/
abbrev widOf (c : Fin 2) (i : Fin 16) : Fin 32 := wid (coordsV c i)

/-- Each core takes its sixteen tasks' parts, each task its own; the tasks bring them back with the partial maxima. -/
def P : (K (F := F)).Pay (nD := nD) (Val := Elt F) (Name := ℕ) (U := UU) where
  st := fun q d c => match q with | 0 => bigSep Finset.univ fun i : Fin 16 => goPts m d (widOf c i) (m (oLoc d))
  dn := fun q d c => match q with | 0 => bigSep Finset.univ fun i : Fin 16 => goPts m d (widOf c i) (G m d)
  go := fun q d c i => match q with | 0 => goPts m d (widOf c i) (m (oLoc d))
  td := fun q d c i => match q with | 0 => goPts m d (widOf c i) (G m d)
  x := fun _ _ => iprop(emp)

/-- What the handshakes carry may be kept in an invariant. -/
instance P_storable : (P (F := F) m).IsStorable where
  st q d c := match q with
    | 0 => (inferInstance : BI.Storable (upEmb : UEmb _ 𝕄) (bigSep Finset.univ fun i : Fin 16 => goPts m d (widOf c i) (m (oLoc d))))
  dn q d c := match q with
    | 0 => (inferInstance : BI.Storable (upEmb : UEmb _ 𝕄) (bigSep Finset.univ fun i : Fin 16 => goPts m d (widOf c i) (G m d)))
  go q d c i := match q with
    | 0 => (inferInstance : BI.Storable (upEmb : UEmb _ 𝕄) (goPts m d (widOf c i) (m (oLoc d))))
  td q d c i := match q with
    | 0 => (inferInstance : BI.Storable (upEmb : UEmb _ 𝕄) (goPts m d (widOf c i) (G m d)))

/-- The body a subcore runs at a call of the SparseCore kernel. -/
theorem defs₀_vector (c : Fin τ.nSC) (s : Fin τ.nSub) :
    defs₀ (F := F) (.scVector c s) 0 ()
      = SparseCore.onTile hcore0 hsub0 (fun c s => cc0__hinge_sc (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0) ⟨⟩ c s := rfl

/-- Every task of the call meets its obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-- A core's parts are its tasks' parts. -/
theorem vecSplit : (K (F := F)).VecSplit' (P m) 0 := by
  intro d c
  show (bigSep Finset.univ fun i : Fin 16 => goPts m d (widOf c i) (m (oLoc d))) ⊢ |={Set.univ}=> iprop(
      (bigSep Finset.univ fun i : Fin 16 => goPts m d (widOf c i) (m (oLoc d)))
      ∗ ((bigSep Finset.univ fun i : Fin 16 => goPts m d (widOf c i) (G m d))
          -∗ bigSep Finset.univ fun i : Fin 16 => goPts m d (widOf c i) (G m d)))
  iintro H; imodintro
  isplitl [H]; · iexact H
  iintro H; iexact H

/-! ## The arrays split among the tasks and rejoined -/

omit [FloatOps F] in
/-- The entries of a task's rows, as the view has them and as the partition has them. -/
theorem rowsSet_eq (w : Fin 32) : rowsSet w = (rows w).set := by
  show ((View.whole (main_v0_scv : Ref sig .scVector)).slice (rows w)).set = _
  rw [View.set_slice]; exact Finset.map_refl
omit [FloatOps F] in
/-- Different tasks write different rows. -/
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv h
omit [FloatOps F] in
/-- Together the tasks write every row. -/
theorem rows_cover : (Finset.univ : Finset (Fin 32)).biUnion rowsSet = Finset.univ :=
  (Finset.biUnion_congr rfl fun i _ => rowsSet_eq i).trans (Rect.biUnion_part hdiv)

/-- A task's number as its core and subcore: number `2 s + c` is subcore `s` of core `c`. -/
def widEquiv : Fin 2 × Fin 16 ≃ Fin 32 where
  toFun x := widOf x.1 x.2
  invFun w := (⟨w.val % 2, Nat.mod_lt _ (by decide)⟩, ⟨w.val / 2, by have := w.isLt; omega⟩)
  left_inv x := by
    have h0 := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

/-- The three arrays whole are the tasks' parts, core by core. -/
theorem parts_eq (d : Dev nD) (f : Buf (Elt F) (oLoc d)) :
    (iprop((xLoc d ↦{fullShare} m (xLoc d)) ∗ (yLoc d ↦{fullShare} m (yLoc d)) ∗ (oLoc d ↦{fullShare} f)) : sProp 𝕄)
      = bigSep Finset.univ fun c : Fin 2 => bigSep Finset.univ fun i : Fin 16 => goPts m d (widOf c i) f := by
  rw [← BI.bigSep_univ_prod (fun x : Fin 2 × Fin 16 => goPts m d (widOf x.1 x.2) f),
    show (bigSep Finset.univ fun x : Fin 2 × Fin 16 => goPts m d (widOf x.1 x.2) f) = bigSep Finset.univ fun w : Fin 32 => goPts m d w f from
      (BI.bigSep_univ_equiv widEquiv (fun w : Fin 32 => goPts m d w f)).symm]
  rw [bigSep_sep', bigSep_sep', ShareLeaves.pointsTo_leaves Finset.univ (m (xLoc d)) 5 fullShare,
    ShareLeaves.pointsTo_leaves Finset.univ (m (yLoc d)) 5 fullShare,
    ← pointsTo_biUnion Finset.univ (ℓ := oLoc d) rowsSet rows_disjoint, rows_cover]
  rfl

/-! ## The TensorCore's kernel: the reduction of the partial maxima -/

/-- The arrays when the TensorCore's kernel starts: the launch's, the partial maxima in theirs. -/
def V₁ (d : Dev nD) : (b : Ref sig .tc) → Buf (Elt F) ((d : Thread nD τ).loc b) :=
  Function.update (fun b => m ((d : Thread nD τ).loc b)) main_v0 (G m d)

/-- The one number the TensorCore's kernel stores. -/
def total (d : Dev nD) : Elt F .f32 := k1_pay1 (F := F) (G m d)

/-- The arrays when the TensorCore's kernel has finished: its number in its result. -/
def V₂ (d : Dev nD) : (b : Ref sig .tc) → Buf (Elt F) ((d : Thread nD τ).loc b) :=
  Function.update (V₁ m d) main_v1 (fun _ => total m d)

/-- After the SparseCore kernel its result holds the partial maxima. -/
theorem V₁_v0 (d : Dev nD) : V₁ m d main_v0 = G m d := Function.update_self ..
/-- Every other array is as at the launch. -/
theorem V₁_ne (d : Dev nD) {b : Ref sig .tc} (h : b ≠ main_v0) : V₁ m d b = m ((d : Thread nD τ).loc b) := Function.update_of_ne h ..
/-- After the TensorCore's kernel its result holds the number. -/
theorem V₂_v1 (d : Dev nD) : V₂ m d main_v1 = fun _ => total m d := Function.update_self ..
/-- Every other array is as the SparseCore kernel left it. -/
theorem V₂_ne (d : Dev nD) {b : Ref sig .tc} (h : b ≠ main_v1) : V₂ m d b = V₁ m d b := Function.update_of_ne h ..

/-- The bound on the levels of what the TensorCore has waited for. -/
abbrev lvB : ℕ := 8 * SparseCore.Cfg.Blocks.fst (Q := 1) (N := 1) 1

/-- The proof data of the TensorCore's kernel: its input as it came, its result at the number. -/
def dat (d : Dev nD) : Dat τ (Elt F) (HIx 1) ℕ UU ℕ cfg1 d where
  A w := V₁ m d (Pipeline.arrRef spec1 w)
  after w _ := match w with
    | ⟨0, _⟩ => G m d
    | ⟨1, _⟩ => fun _ => total m d
  Φ _ := Pipeline.scopedRest (Ix := HIx 1) (Name := ℕ) (U := UU) (Lvl := ℕ) (Val := Elt F) spec1 d
  q _ := fullShare
  owed _ := 0
  recorded _ := {p | (K (F := F)).lev (SparseCore.T d, p.1) p.2 ≤ lvB}

/-- The pipelines' tables: none has one. -/
abbrev adm : (p : Fin 1) → (pcfgs (F := F) p).Adm := fun p => (cfgs p).toPCfg_adm

/-- The proof data of every pipeline: there is one. -/
def pdats : (p : Fin 1) → (d : Dev nD) → Dat τ (Elt F) (HIx 1) ℕ UU ℕ (Pipeline.pin (pcfgs (F := F)) adm p) d
  | ⟨0, _⟩ => fun d => dat m d

/-- The kernel's input is staged whole: its buffer holds the partial maxima when the body runs. -/
theorem before_in (d : Dev nD) (f : (cfg1.win 0).block.Idx → Elt F (cfg1.win 0).elt) : (dat m d).before 0 t1_0 f = G m d := by
  unfold Dat.before; rw [if_pos (by decide)]
  show ((cfg1.win 0).blk t1_0).view.read (Elt F) (V₁ m d main_v0) = _
  rw [V₁_v0]
  funext y
  refine congrArg (G m d) (funext fun a => Fin.ext ?_)
  match a with
  | 0 => show 0 * 128 + 1 * (y 0).val = (y 0).val; omega
  | 1 => show 0 * 16 + 1 * (y 1).val = (y 1).val; omega

/-- The body loads the partial maxima, reduces them and stores the number. -/
theorem body_run (d : Dev nD) (f : Buf (Elt F) ((stage1_1 0).view.loc (d : Thread nD τ))) (Q : PUnit → sProp 𝕄) :
    iprop(((stage1_0 0).view.loc (d : Thread nD τ) ↦{fullShare} (G m d))
        ∗ ((stage1_1 0).view.loc (d : Thread nD τ) ↦{fullShare} f)
        ∗ (iprop(((stage1_0 0).view.loc (d : Thread nD τ) ↦{fullShare} (G m d))
          ∗ ((stage1_1 0).view.loc (d : Thread nD τ) ↦{fullShare} fun _ => total m d)) -∗ Q ⟨⟩))
      ⊢ wp frame (wpE (defs₀ (F := F)) 𝒱₀ (d : Thread nD τ) none) Set.univ
          (cc1__sum_tc (stage1_0 0) (hstage1_0 0) (stage1_1 0) (hstage1_1 0)) Q := by
  rw [cc1__sum_tc_eq_skeleton]; unfold cc1__sum_tc_skel
  iintro ⟨H0, H1, Hk⟩
  sl_exec!
  sl_step
  iapply Hk
  isplitl [H0]; · iexact H0
  have hr : View.readAt (Elt F) (stage1_0 0).view (Rect.unit (s := S128x16) ![0, 0] S128x16.size inb_S128x16_S128x16_0_0).toLoadRect (G m d) = G m d :=
    View.readAt_full (stage1_0 0).view _ _
  have hw : View.read (Elt F) (stage1_1 0).view ((stage1_1 0).view.writes (Elt F) (stage1_1 0).view.junk
      [⟨Rect.unit ![0, 0] S1x1.size inb_S1x1_S1x1_0_0, fun _ => k1_pay1 (View.readAt (Elt F) (stage1_0 0).view
        (Rect.unit (s := S128x16) ![0, 0] S128x16.size inb_S128x16_S128x16_0_0).toLoadRect (G m d))⟩]) = fun _ => total m d :=
    (View.read_writes_full ..).trans (by rw [hr]; rfl)
  have hw' : (stage1_1 0).view.writes (Elt F) (stage1_1 0).view.junk (body_run.sl.H1_1 m d) = fun _ => total m d := hw
  rw [hw']; iexact H1

/-- The body meets the pipeline's obligation. -/
theorem body_obligation (d : Dev nD) : BodyObligation (dat m d) (defs₀ (F := F)) 𝒱₀ (none : HIx 1) Set.univ := fun t => by
  obtain rfl := fin_N1 t
  rw [bigSep_W1, bigSep_W1]
  simp only [owns_whole_eq]
  rw [show (dat m d).Φ t1_0.castSucc = (dat m d).Φ t1_0.succ from rfl,
    show (dat m d).owesAt (none : HIx 1) t1_0.succ = (dat m d).owesAt (none : HIx 1) t1_0.castSucc from rfl]
  iintro ⟨HΦ, Howes, ⟨%d0, %f0, %hf0, H0⟩, ⟨%d1, %f1, -, H1⟩⟩
  rw [before_in] at hf0
  subst hf0
  iapply (body_run m d f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; rfl

/-- The kernel's result array ends at its number. -/
theorem arr_out (d : Dev nD) : (pdats m 0 d).arrAt 1 cfg1.N = fun _ => total m d :=
  Dat.arrAt_eq_of_after_last (dat m d) 1 t1_0 (by decide +kernel) (fun _ => total m d) fun _ => rfl

set_option backward.isDefEq.respectTransparency.types false in
/-- The TensorCore's kernel over the TensorCore's arrays: from the partial maxima to the number. -/
def reg : Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation m d).loose
  hwaits := Pipeline.hwaits_of_owed_zero _ _ _ _ (K (F := F)).L (K (F := F)).lev 0 fun _ _ => rfl
  pre d := iprop(unscopedBufs d (V₁ m d) ∗ ∃ W, ⌜(K (F := F)).WBelow (SparseCore.T d) W lvB⌝ ∗ owes (d : Thread nD τ) (0 : CellTallies nD τ sig (HIx 1)) W)
  post d := iprop(unscopedBufs d (V₂ m d) ∗ ∃ W, ⌜(K (F := F)).WBelow (SparseCore.T d) W lvB⌝ ∗ owes (d : Thread nD τ) (0 : CellTallies nD τ sig (HIx 1)) W)
  X _ := BI.emp
  Y _ := BI.emp
  Z d := Pipeline.unscopedRest (Ix := HIx 1) (Name := ℕ) (U := UU) (Lvl := ℕ) spec1 d (V₁ m d)
  hentry d := by
    rw [Pipeline.ownSems0_none]
    have hsplit := Pipeline.arrays_of_unscopedBufs (p := 0) (pcfgs (F := F)) adm (pdats m) launch1.win launch1.arr_whole d
      ((pdats m 0 d).share_full fun _ => rfl) (V₁ m d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats m 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats m 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats m) ((pdats m 0 d).share_full fun _ => rfl) (V₁ m d) (V₂ m d) ((pdats m 0 d).arrAt · cfg1.N)
      (fun w => by
        fin_cases w
        · exact ((pdats m 0 d).arrAt_in 0 rfl _).trans (V₂_ne m d (b := main_v0) (by decide)).symm
        · exact (arr_out m d).trans (V₂_v1 m d).symm)
      (fun b hb => V₂_ne m d fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact (Nat.zero_le _)
    iexact HO

/-! ## The launch's own state -/

/-- The launch's ghost state: the handshakes' rounds and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipeline's part of it on device `d`: its cells' states and its transfers' tokens. -/
abbrev GH (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- The user's part of the algebra splits into the handshakes' and the pipeline's. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch's state deals the handshakes theirs and each TensorCore the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => GH d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · rw [show (bigSep Finset.univ fun d : Dev nD => Pipeline.cellsGhost (Pipeline.pin (pcfgs (F := F)) adm) EP 0 d)
        = bigSep Finset.univ fun d : Dev nD => bigSep Finset.univ fun p : Fin 1 => (Pipeline.cellsGhost (Pipeline.pin (pcfgs (F := F)) adm) EP p d : sProp 𝕄) from
          bigSep_congr fun _ _ => (bigSep_univ_of_subsingleton (Φ := fun p : Fin 1 => Pipeline.cellsGhost (Pipeline.pin (pcfgs (F := F)) adm) EP p _) (0 : Fin 1)).symm]
      iexact Hc
    · rw [show (bigSep Finset.univ fun d : Dev nD => Pipeline.toksInit (Pipeline.pin (pcfgs (F := F)) adm) EP 0 d)
        = bigSep Finset.univ fun d : Dev nD => bigSep Finset.univ fun p : Fin 1 => (Pipeline.toksInit (Pipeline.pin (pcfgs (F := F)) adm) EP p d : sProp 𝕄) from
          bigSep_congr fun _ _ => (bigSep_univ_of_subsingleton (Φ := fun p : Fin 1 => Pipeline.toksInit (Pipeline.pin (pcfgs (F := F)) adm) EP p _) (0 : Fin 1)).symm]
      iexact Ht
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## The TensorCore's program -/

omit [FloatOps F] in
/-- The TensorCore's arrays one by one. -/
theorem unscopedBufs_eq (d : Dev nD) (W : (b : Ref sig .tc) → Buf (Elt F) ((SparseCore.T d).loc b)) :
    (unscopedBufs d W : sProp 𝕄) = iprop((xLoc d ↦{fullShare} W main_arg0) ∗ (yLoc d ↦{fullShare} W main_arg1) ∗ (oLoc d ↦{fullShare} W main_v0)
      ∗ ((SparseCore.T d).loc main_v1 ↦{fullShare} W main_v1) ∗ ((SparseCore.T d).loc main_v2 ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The program's result array on device `d`. -/
abbrev rLoc (d : Dev nD) : Loc nD τ sig := (SparseCore.T d).loc main_v2

/-- The TensorCore kernel's result, one by one. -/
abbrev b1 : DevRef τ sig := Proc.devRef .tc (main_v1 : Ref sig .tc)
/-- The program's result, a scalar. -/
abbrev b2 : DevRef τ sig := Proc.devRef .tc (main_v2 : Ref sig .tc)

/-- The last operation: the kernel's one-by-one result as a scalar. -/
abbrev opR : HloOp τ sig (Elt F) := StableHlo.reshape main_v1 main_v2 (rfl : (.f32 : EltTy) = .f32) shapeCasts_S1x1_S_

/-- The two buffers of the last operation. -/
abbrev S2 : Finset (DevRef τ sig) := {b1, b2}

/-- The buffers' contents before the last operation. -/
def Wr (d : Dev nD) : Valuation τ sig (Elt F) := Function.update (fun b => m (d, b)) b1 (fun _ => total m d)

/-- Before the last operation the one-by-one result holds the number. -/
theorem Wr_b1 (d : Dev nD) : Wr m d b1 = fun _ => total m d := Function.update_self ..
/-- Before the last operation the scalar result is as at the launch. -/
theorem Wr_b2 (d : Dev nD) : Wr m d b2 = m (rLoc d) := Function.update_of_ne (show b2 ≠ b1 by decide) ..

omit [FloatOps F] in
/-- Holding the two buffers of the last operation is holding each of them. -/
theorem held_S2 (d : Dev nD) (W : Valuation τ sig (Elt F)) :
    (StableHlo.held (T d) S2 W : sProp 𝕄) = iprop(((SparseCore.T d).loc main_v1 ↦{fullShare} W b1) ∗ (rLoc d ↦{fullShare} W b2)) := by
  unfold StableHlo.held S2
  rw [SparseCore.bigSep_insert' (by decide), bigSep_singleton]

/-- The last operation leaves the number in the scalar result. -/
theorem opR_b2 (d : Dev nD) : (opR (F := F)).result (Wr m d) b2 = fun _ => total m d := by
  refine (StableHlo.reshape_result (Val := Elt F) main_v1 main_v2 rfl shapeCasts_S1x1_S_ _ _ (Wr m d)).trans ?_
  funext i
  show shapeCast S_ (Wr m d b1) shapeCasts_S1x1_S_ i = _
  rw [Wr_b1]; rfl

/-- After the last operation its result holds the number. -/
theorem held_opR (d : Dev nD) : (StableHlo.held (T d) S2 ((opR (F := F)).result (Wr m d)) : sProp 𝕄)
    = iprop(((SparseCore.T d).loc main_v1 ↦{fullShare} (opR (F := F)).result (Wr m d) b1) ∗ (rLoc d ↦{fullShare} fun _ => total m d)) := by
  rw [held_S2, opR_b2]

/-- What the program leaves: the arguments as launched, the result at the number. -/
abbrev FIN (d : Dev nD) : sProp 𝕄 :=
  iprop((xLoc d ↦{fullShare} m (xLoc d)) ∗ (yLoc d ↦{fullShare} m (yLoc d)) ∗ (rLoc d ↦{fullShare} fun _ => total m d))

/-- The TensorCore owes nothing after the one SparseCore call. -/
theorem Otc_one (d : Dev nD) : (K (F := F)).Otc d 1 = 0 := by
  unfold SparseCore.Cfg.Otc
  exact Finset.sum_eq_zero fun q _ => if_neg (by have := q.isLt; omega)

/-- What the call hands out is the three arrays as launched. -/
theorem st_eq (d : Dev nD) : (bigSep Finset.univ fun c : Fin ((K (F := F)).nCore 0) => (P m).st 0 d c)
    = iprop((xLoc d ↦{fullShare} m (xLoc d)) ∗ (yLoc d ↦{fullShare} m (yLoc d)) ∗ (oLoc d ↦{fullShare} m (oLoc d))) := (parts_eq m d (m (oLoc d))).symm
/-- What it brings back is the three arrays with the partial maxima. -/
theorem dn_eq (d : Dev nD) : (bigSep Finset.univ fun c : Fin ((K (F := F)).nCore 0) => (P m).dn 0 d c)
    = iprop((xLoc d ↦{fullShare} m (xLoc d)) ∗ (yLoc d ↦{fullShare} m (yLoc d)) ∗ (oLoc d ↦{fullShare} G m d)) := (parts_eq m d (G m d)).symm

/-- What the reduction starts from, array by array. -/
theorem reg_pre (d : Dev nD) : (reg m).pre d
    = iprop(((xLoc d ↦{fullShare} m (xLoc d)) ∗ (yLoc d ↦{fullShare} m (yLoc d)) ∗ (oLoc d ↦{fullShare} G m d)
        ∗ ((SparseCore.T d).loc main_v1 ↦{fullShare} m ((SparseCore.T d).loc main_v1)) ∗ (rLoc d ↦{fullShare} m (rLoc d)))
      ∗ ∃ W, ⌜(K (F := F)).WBelow (SparseCore.T d) W lvB⌝ ∗ owes (d : Thread nD τ) (0 : CellTallies nD τ sig (HIx 1)) W) := by
  show iprop(unscopedBufs d (V₁ m d) ∗ _) = _
  rw [unscopedBufs_eq, V₁_v0, V₁_ne m d (b := main_arg0) (by decide), V₁_ne m d (b := main_arg1) (by decide), V₁_ne m d (b := main_v1) (by decide),
    V₁_ne m d (b := main_v2) (by decide)]

/-- What the reduction leaves, array by array. -/
theorem reg_post (d : Dev nD) : (reg m).post d
    = iprop(((xLoc d ↦{fullShare} m (xLoc d)) ∗ (yLoc d ↦{fullShare} m (yLoc d)) ∗ (oLoc d ↦{fullShare} G m d)
        ∗ ((SparseCore.T d).loc main_v1 ↦{fullShare} fun _ => total m d) ∗ (rLoc d ↦{fullShare} m (rLoc d)))
      ∗ ∃ W, ⌜(K (F := F)).WBelow (SparseCore.T d) W lvB⌝ ∗ owes (d : Thread nD τ) (0 : CellTallies nD τ sig (HIx 1)) W) := by
  show iprop(unscopedBufs d (V₂ m d) ∗ _) = _
  rw [unscopedBufs_eq, V₂_v1, V₂_ne m d (b := main_arg0) (by decide), V₂_ne m d (b := main_arg1) (by decide), V₂_ne m d (b := main_v0) (by decide),
    V₂_ne m d (b := main_v2) (by decide), V₁_v0, V₁_ne m d (b := main_arg0) (by decide), V₁_ne m d (b := main_arg1) (by decide),
    V₁_ne m d (b := main_v2) (by decide)]

/-- The TensorCore's program: the SparseCore call, the reduction of what it leaves, the reshape. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ GH d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy, Ho, H1, H2⟩, Hts, -⟩, HG⟩
  -- the SparseCore call: the tasks' parts there and back
  iapply ((K (F := F)).wp_run (D (F := F)) 𝒱 (EH := EH) (P := P m) κ d 0) $$ [Hst Hx Hy Ho Hb H1 H2 Hts HG]
  isplitr; · iexact Hctx
  isplitl [Hst]; · iexact Hst
  isplitl [Hx Hy Ho]
  · rw [st_eq]
    isplitl [Hx]; · iexact Hx
    isplitl [Hy] <;> iassumption
  iintro ⟨Hst, Hdn⟩
  ihave Hdn' := (Entails.of_eq (dn_eq m d)) $$ Hdn
  icases Hdn' with ⟨Hx, Hy, Ho⟩
  -- the reduction, over the TensorCore's arrays
  ihave Hlev := ((K (F := F)).ctx_levAts (EH := EH) (P := P m) κ) $$ Hctx
  unfold SparseCore.Cfg.tcSt
  icases Hst with ⟨⟨%W, %hW, HO⟩, Hrest⟩
  iapply ((K (F := F)).wp_liftProg (D (F := F)) 𝒱 (SparseCore.T d) Set.univ none (.op (.customCall (Pipeline.entry 0) ()) .ret) _)
  iapply (Pipeline.RegionSeg.wp (pcfgs (F := F)) adm (pdats m) (none : HIx 1) cellOf_inj EP defs₀ 𝒱₀ (K (F := F)).L (K (F := F)).lev (reg m) d none
    (fun _ h => nomatch h) .ret _)
  isplitr [Hb Hx Hy Ho H1 H2 HO HG]
  swap
  · isplitl [Hb]; · iexact Hb
    isplitl [Hx Hy Ho H1 H2 HO]
    · rw [reg_pre]
      isplitl [Hx Hy Ho H1 H2]
      · isplitl [Hx]; · iexact Hx
        isplitl [Hy]; · iexact Hy
        isplitl [Ho]; · iexact Ho
        isplitl [H1] <;> iassumption
      iexists W; isplitr; · ipureintro; exact hW
      rw [show (K (F := F)).Otc d ((0 : Fin 1).val + 1) = 0 from Otc_one d]
      iexact HO
    isplitr; · iexact Hlev
    icases HG with ⟨Hc, Ht⟩
    isplitl [Hc] <;> iassumption
  rw [reg_post]
  iintro ⟨Hb, ⟨Hx, Hy, Ho, H1, H2⟩, %W', %hW', HO⟩
  -- the reshape, over its operand and its result
  rw [wp_ret]; imodintro
  iapply (StableHlo.wp_hlo_within 𝒱 (SparseCore.T d) none Set.univ (op := opR) (S := S2) (show ({b1, b2} : Finset (DevRef τ sig)) ⊆ S2 by decide) (V := Wr m d)) $$ [Hb H1 H2]
  · isplitl [Hb]; · iexact Hb
    rw [held_S2, Wr_b1, Wr_b2]
    isplitl [H1] <;> iassumption
  iintro ⟨Hb, Hheld⟩
  ihave Hh := (Entails.of_eq (held_opR m d)) $$ Hheld
  icases Hh with ⟨-, H2⟩
  rw [wp_ret]; imodintro; imodintro
  isplitl [HO Hrest]
  · isplitl [HO]
    · iexists W'; isplitr; · ipureintro; exact hW'
      rw [show (K (F := F)).Otc d 1 = 0 from Otc_one d]
      iexact HO
    iexact Hrest
  isplitr [Hb Hts]
  · isplitl [Hx]; · iexact Hx
    isplitl [Hy] <;> iassumption
  isplitl [Hb] <;> iassumption

/-- What the final memory holds on device `d`. -/
def fq (d : Dev nD) (s' : Phys nD τ sig (Elt F)) : Prop :=
  s'.mem.mem (rLoc d) = (fun _ => total m d) ∧ s'.mem.mem (xLoc d) = m (xLoc d) ∧ s'.mem.mem (yLoc d) = m (yLoc d)

/-- From what the threads hold at the end, the final memory is read off. -/
theorem hfin (d : Dev nD) (s' : Phys nD τ sig (Elt F)) : iprop(FIN m d ∗ SI s') ⊢ (⌜fq m d s'⌝ : sProp 𝕄) := by
  iintro ⟨⟨Hx, Hy, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%hy, HSI, -⟩
  ihave H := (SI_pointsTo_agree (st := s') (ℓ := rLoc d) (I := Finset.univ) (q := fullShare) (f := fun _ => total m d)) $$ [HSI Hr]
  · isplitl [HSI] <;> iassumption
  icases H with %hr
  ipureintro
  exact ⟨funext fun i => hr i (Finset.mem_univ i), funext fun i => hx i (Finset.mem_univ i), funext fun i => hy i (Finset.mem_univ i)⟩

/-- What the program's run ends at: on every device the result and the arguments, and every semaphore at zero. -/
def QC : PUnit × MemSt nD τ sig (Elt F) → Prop := fun r =>
  (∀ d : Dev nD, r.2.mem (rLoc d) = (fun _ => total m d) ∧ r.2.mem (xLoc d) = m (xLoc d) ∧ r.2.mem (yLoc d) = m (yLoc d)) ∧ r.2.sem = fun _ => 0

/-- Every run of the program ends there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => GH d) (FIN m) (u₀ (F := F)) (sep_elim_left.trans (hu₀ m)) (hmain m ρ) (fq m) (hfin m) (QC m) (fun _ h hz => ⟨h, hz⟩)

end Cert.Proof.IdealRun
end
-- ==== Proof.Value.lean ====
/-
  The value the kernel ends at is the reference's, over the extended reals: on each row both take the greatest score, and both divide
  the sum of those by 128.
-/
module

public import proofs.«01_k».proof.Proof.IdealRun
public import proofs.«01_k».proof.Proof.Gen.ReferenceIdeal.Run
public import Idealize.ShloMosaic.Lib.SortFacts
public import Idealize.ShloMosaic.Lib.IdealHost
public import Idealize.ShloMosaic.Lib.Pointwise

@[expose] public section

noncomputable section

namespace Cert.Proof.Value

open Idealize.ShloMosaic
open Cert.KernelIdeal (S16 S128 S128x16 S32768 S128x32768 S1x128 S1 S1x1)
open Cert.Proof.IdealRun (chunk hinge acc accs fold8 rowMax rowOf)

/-! ## The scores -/

/-- The threshold a label is compared with. -/
def half : EReal := Ideal.ofBits .f32 0x3F000000#32

/-- One entry's score: its value where its label is at least a half, zero where it is not. -/
def score (x y : EReal) : EReal := if half ≤ y then x else 0

/-- The greatest score of row `r`. -/
def best (X Y : S128x32768.Idx → EReal) (r : Fin 128) : EReal :=
  Finset.univ.sup fun k : Fin 32768 => score (X (ix2 r k)) (Y (ix2 r k))

/-- The pattern of minus infinity is the least extended real. -/
theorem ofBits_negInf : Ideal.ofBits .f32 0xFF800000#32 = ⊥ := by
  simp [Ideal.ofBits, Ideal.ieee]

/-- The pattern of 128. -/
theorem ofBits_128 : Ideal.ofBits .f32 0x43000000#32 = ((128 : ℝ) : EReal) := by
  simp [Ideal.ofBits, Ideal.ieee, -EReal.coe_mul]; norm_num

/-- The pattern of one over 128. -/
theorem ofBits_inv128 : Ideal.ofBits .f32 0x3C000000#32 = ((1 / 128 : ℝ) : EReal) := by
  simp [Ideal.ofBits, Ideal.ieee, -EReal.coe_mul]; norm_num

/-! ## The kernel's side -/

/-- One update of an accumulator takes the greater of what it held and the entry's score. -/
theorem hinge_apply (a x y : FVec Ideal S16 .f32) (l : S16.Idx) : hinge a x y l = max (a l) (score (x l) (y l)) := by
  show max (a l) (if Ideal.cmp .oge (y l) half = 1 then x l else Ideal.ofBits .f32 0x00000000#32) = _
  rw [Ideal.ofBits_zero_f32]
  by_cases h : half ≤ y l <;> simp [Ideal.cmp, score, h]

/-- An accumulator is below a bound exactly when every score it has met is. -/
theorem acc_le_iff (fx fy : S32768.Idx → EReal) (u k : ℕ) (l : S16.Idx) (c : EReal) :
    acc (F := Ideal) fx fy u k l ≤ c ↔ ∀ i < k, score (chunk fx (128 * i + 16 * u) l) (chunk fy (128 * i + 16 * u) l) ≤ c := by
  induction k with
  | zero => simp only [Nat.not_lt_zero, false_imp_iff, implies_true, iff_true]; exact ofBits_negInf.trans_le bot_le
  | succ k ih =>
    rw [show acc (F := Ideal) fx fy u (k + 1) l = _ from hinge_apply _ _ _ l, max_le_iff, ih]
    constructor
    · rintro ⟨h, h'⟩ i hi
      rcases Nat.lt_succ_iff_lt_or_eq.mp hi with hi | rfl
      exacts [h i hi, h']
    · exact fun h => ⟨fun i hi => h i (hi.trans (Nat.lt_succ_self k)), h k (Nat.lt_succ_self k)⟩

/-- The greatest of eight numbers is below a bound exactly when each of them is. -/
theorem max8_le_iff (f : ℕ → EReal) (c : EReal) :
    max (max (max (max (max (max (max (f 0) (f 1)) (f 2)) (f 3)) (f 4)) (f 5)) (f 6)) (f 7) ≤ c ↔ ∀ u < 8, f u ≤ c := by
  simp only [max_le_iff]
  constructor
  · rintro ⟨⟨⟨⟨⟨⟨⟨h0, h1⟩, h2⟩, h3⟩, h4⟩, h5⟩, h6⟩, h7⟩ u hu
    interval_cases u <;> assumption
  · intro h
    exact ⟨⟨⟨⟨⟨⟨⟨h 0 (by decide), h 1 (by decide)⟩, h 2 (by decide)⟩, h 3 (by decide)⟩, h 4 (by decide)⟩, h 5 (by decide)⟩,
      h 6 (by decide)⟩, h 7 (by decide)⟩

/-- A lane of a row's partial maxima is below a bound exactly when the lane's accumulator is, for each of the eight. -/
theorem rowMax_le_iff (fx fy : S32768.Idx → EReal) (l : S16.Idx) (c : EReal) :
    rowMax (F := Ideal) fx fy l ≤ c ↔ ∀ u < 8, acc (F := Ideal) fx fy u 256 l ≤ c :=
  max8_le_iff (fun u => acc (F := Ideal) fx fy u 256 l) c

/-- An entry of a chunk of a row is the array's entry at the row and the chunk's place. -/
theorem chunk_rowOf (X : S128x32768.Idx → EReal) (r : Fin 128) (b : ℕ) (l : S16.Idx) (k : Fin 32768) (hk : b + (l 0).val = k.val) :
    chunk (rowOf X r) b l = X (ix2 r k) := by
  unfold chunk rowOf
  congr 1
  funext a
  match a with
  | 0 => rfl
  | 1 => exact Fin.ext (by show (b + (l 0).val) % 32768 = k.val; rw [hk]; exact Nat.mod_eq_of_lt k.isLt)

/-- The greatest of a row's sixteen partial maxima is the row's greatest score. -/
theorem fold_rowMax (X Y : S128x32768.Idx → EReal) (r : Fin 128) (e : Fin 16 → S16.Idx) (he : ∀ l, (e l 0).val = l.val) :
    (Finset.univ.fold max (⊥ : EReal) fun l => rowMax (F := Ideal) (rowOf X r) (rowOf Y r) (e l)) = best X Y r := by
  refine eq_of_forall_ge_iff fun c => ?_
  rw [Finset.fold_max_le, best, Finset.sup_le_iff]
  constructor
  · rintro ⟨-, h⟩ k -
    have hk := k.isLt
    have h1 := (acc_le_iff _ _ _ _ _ _).mp ((rowMax_le_iff _ _ _ _).mp (h ⟨k.val % 16, Nat.mod_lt _ (by decide)⟩ (Finset.mem_univ _))
      (k.val / 16 % 8) (Nat.mod_lt _ (by decide))) (k.val / 128) (by omega)
    have hp : 128 * (k.val / 128) + 16 * (k.val / 16 % 8) + (e ⟨k.val % 16, Nat.mod_lt _ (by decide)⟩ 0).val = k.val := by
      rw [he]; show _ + k.val % 16 = _; omega
    rwa [chunk_rowOf X r _ _ k hp, chunk_rowOf Y r _ _ k hp] at h1
  · refine fun h => ⟨bot_le, fun l _ => (rowMax_le_iff _ _ _ _).mpr fun u hu => (acc_le_iff _ _ _ _ _ _).mpr fun i hi => ?_⟩
    have hl := l.isLt
    have hp : 128 * i + 16 * u + (e l 0).val = (⟨128 * i + 16 * u + l.val, by omega⟩ : Fin 32768).val := by rw [he]
    rw [chunk_rowOf X r _ _ _ hp, chunk_rowOf Y r _ _ _ hp]
    exact h _ (Finset.mem_univ _)

/-- The number the TensorCore's kernel makes of the partial maxima: the sum over the rows of each row's greatest, over 128. -/
theorem pay1_eq (g : S128x16.Idx → EReal) :
    Cert.KernelIdeal.Gen.k1_pay1 (F := Ideal) g
      = (∑ r : Fin 128, Finset.univ.fold max (⊥ : EReal) fun l : Fin 16 => g (ix2 r l)) * ((1 / 128 : ℝ) : EReal) := by
  pointwise [Cert.KernelIdeal.Gen.k1_pay1]
  rw [ofBits_negInf, ofBits_inv128]

/-! ## The reference's side -/

/-- What a sort of finitely many numbers, greater first, puts first is the greatest of them. -/
theorem sortedFrom_zero {n : ℕ} (f : Fin n → EReal) (z : Fin n) (hz : z.val = 0) :
    f (sortedFrom (fun k k' => Ideal.cmp .ogt (f k) (f k') == 1#1) z) = Finset.univ.sup f := by
  have hb : ∀ k k', (Ideal.cmp .ogt (f k) (f k') == 1#1) = decide (f k' < f k) := fun k k' => by
    by_cases h : f k' < f k <;> simp [Ideal.cmp, h]
  refine le_antisymm (Finset.le_sup (Finset.mem_univ _)) (Finset.sup_le fun k _ => ?_)
  obtain ⟨j, rfl⟩ := sortedFrom_surjective (fun k k' => Ideal.cmp .ogt (f k) (f k') == 1#1) k
  rcases eq_or_ne z j with rfl | hne
  · exact le_rfl
  · have := sortedFrom_noInversion (fun k k' => Ideal.cmp .ogt (f k) (f k') == 1#1) (fun k k' => Ideal.cmp .ogt (f k) (f k') == 1#1)
      (fun a b h => by rw [hb] at h ⊢; simp only [decide_eq_true_eq, decide_eq_false_iff_not, not_lt] at h ⊢; exact h.le)
      (fun a b h => h)
      (fun a b c h h' => by rw [hb] at h h' ⊢; simp only [decide_eq_false_iff_not, not_lt] at h h' ⊢; exact h.trans h')
      z j (Fin.lt_def.mpr (by have : z.val ≠ j.val := fun e => hne (Fin.ext e); omega))
    rw [hb] at this
    simpa using this

/-- The first of the greatest entries of a row is the row's greatest entry. -/
theorem topK_apply (x : S128x32768.Idx → EReal) (h : S128x32768.Slices (fun _ => 0) Cert.ReferenceIdeal.S128x1) (j : Cert.ReferenceIdeal.S128x1.Idx) :
    (Host.topK Cert.ReferenceIdeal.S128x1 1 (FloatOps.cmpfTotal (F := Ideal) (φ := .f32) .gt) x h).1 j
      = Finset.univ.sup fun k : Fin 32768 => x (ix2 (j 0) k) := by
  have hrow : ∀ (i : S128x32768.Idx) (k : Fin 32768), i 0 = j 0 → i.along 1 k = ix2 (j 0) k := fun i k hi => by
    funext a
    match a with
    | 0 => exact hi
    | 1 => rfl
  let i : S128x32768.Idx := fun a => ⟨0 + (j (a.cast h.1.symm)).val, Nat.lt_of_lt_of_le (Nat.add_lt_add_left (j _).isLt _) (h.2 a)⟩
  have hi : i 0 = j 0 := Fin.ext (Nat.zero_add _)
  have hz : (i 1).val = 0 := by
    have : (j 1).val < 1 := (j 1).isLt
    show 0 + (j 1).val = 0
    omega
  exact (sortedFrom_zero (fun k : Fin 32768 => x (i.along 1 k)) (i 1) hz).trans
    (Finset.sup_congr rfl fun k _ => congrArg x (hrow i k hi))

/-- The reference's score of an entry. -/
theorem score_eq (x y : EReal) :
    x * (1 - FloatOps.uitofp (F := Ideal) .f32 (Ideal.cmp .olt y half)) * 1 * 1 = score x y := by
  rw [mul_one, mul_one]
  by_cases h : half ≤ y
  · have : Ideal.cmp .olt y half = 0#1 := by simp [Ideal.cmp, not_lt.mpr h]
    rw [this, score, if_pos h]
    show x * (1 - (((0#1).toNat : ℝ) : EReal)) = x
    simp
  · have : Ideal.cmp .olt y half = 1#1 := by simp [Ideal.cmp, lt_of_not_ge h]
    rw [this, score, if_neg h]
    show x * (1 - (((1#1).toNat : ℝ) : EReal)) = 0
    have h1 : (1 : EReal) - (((1#1).toNat : ℝ) : EReal) = 0 := by
      rw [← EReal.coe_one, ← EReal.coe_sub]; simp
    rw [h1, mul_zero]

/-- Division by one changes nothing. -/
theorem div_one' (x : EReal) : Ideal.div x 1 = x := by
  rw [← EReal.coe_one, Ideal.div_coe one_ne_zero]; simp

/-- The reference's result: the sum over the rows of each row's greatest score, divided by 128. -/
def refTerm (X Y : FVec Ideal S128x32768 .f32) : Cert.ReferenceIdeal.S_.Idx → EReal :=
  open Cert.ReferenceIdeal.Gen in
  Host.divf (F := Ideal) (φ := .f32) (addf (constant Cert.ReferenceIdeal.S_ .f32 0x00000000#32) (Host.reduceAdd (Host.divf (Host.reduceAdd ((Host.topK Cert.ReferenceIdeal.S128x1 1 (FloatOps.cmpfTotal .gt)
    (mulf (mulf (mulf X (subf (broadcastInDim S128x32768 ![] bcast_S_S128x32768 (constant Cert.ReferenceIdeal.S_ .f32 0x3F800000#32))
      (uitofp .f32 (cmpf .olt Y (broadcastInDim S128x32768 ![] bcast_S_S128x32768 (constant Cert.ReferenceIdeal.S_ .f32 0x3F000000#32))))))
      (broadcastInDim S128x32768 ![] bcast_S_S128x32768 (constant Cert.ReferenceIdeal.S_ .f32 0x3F800000#32)))
      (broadcastInDim S128x32768 ![] bcast_S_S128x32768 (constant Cert.ReferenceIdeal.S_ .f32 0x3F800000#32))) sliceFits_S128x32768_S128x1).1)
    (constant Cert.ReferenceIdeal.S_ .f32 0x00000000#32) reducesTo_S128x1_S128_d1 h_S_) (broadcastInDim S128 ![] bcast_S_S128 (constant Cert.ReferenceIdeal.S_ .f32 0x3F800000#32)))
    (constant Cert.ReferenceIdeal.S_ .f32 0x00000000#32) reducesTo_S128_S_d0 h_S_)) (constant Cert.ReferenceIdeal.S_ .f32 0x43000000#32)

/-- The reference's result is the sum of the rows' greatest scores times one over 128. -/
theorem refTerm_eq (X Y : S128x32768.Idx → EReal) (j : Cert.ReferenceIdeal.S_.Idx) :
    refTerm X Y j = (∑ r : Fin 128, best X Y r) * ((1 / 128 : ℝ) : EReal) := by
  pointwise [refTerm]
  rw [ofBits_128, Ideal.div_coe (by norm_num)]
  refine congrArg (· * ((1 / 128 : ℝ) : EReal)) (Finset.sum_congr rfl fun r _ => ?_)
  rw [div_one', Fin.sum_univ_one]
  refine (topK_apply _ _ _).trans (Finset.sup_congr rfl fun k _ => ?_)
  rw [← score_eq]
  show X (ix2 r k) * (Ideal.ofBits .f32 0x3F800000#32 - FloatOps.uitofp (F := Ideal) .f32 (Ideal.cmp .olt (Y (ix2 r k)) half))
    * Ideal.ofBits .f32 0x3F800000#32 * Ideal.ofBits .f32 0x3F800000#32 = _
  rw [Ideal.ofBits_one_f32]

/-- The kernel's result is the same sum times the same factor. -/
theorem total_eq (m : (ℓ : Loc Cert.KernelIdeal.nD Cert.KernelIdeal.τ Cert.KernelIdeal.sig) → Buf (Elt Ideal) ℓ) (d : Dev Cert.KernelIdeal.nD) :
    IdealRun.total m d = (∑ r : Fin 128, best (m (IdealRun.xLoc d)) (m (IdealRun.yLoc d)) r) * ((1 / 128 : ℝ) : EReal) := by
  refine (pay1_eq (IdealRun.G m d)).trans (congrArg (· * ((1 / 128 : ℝ) : EReal)) (Finset.sum_congr rfl fun r _ => ?_))
  exact fold_rowMax (m (IdealRun.xLoc d)) (m (IdealRun.yLoc d)) r (fun l a => match a with | 0 => l) fun _ => rfl

/-- The two programs end at one value. -/
theorem total_eq_refTerm (m : (ℓ : Loc Cert.KernelIdeal.nD Cert.KernelIdeal.τ Cert.KernelIdeal.sig) → Buf (Elt Ideal) ℓ)
    (d : Dev Cert.KernelIdeal.nD) :
    (fun _ => IdealRun.total m d) = refTerm (m (IdealRun.xLoc d)) (m (IdealRun.yLoc d)) :=
  funext fun j => (total_eq m d).trans (refTerm_eq _ _ j).symm

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.BitsRun
public import proofs.«01_k».proof.Proof.IdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: it runs to its end with its arguments unchanged and every semaphore at zero. -/
theorem frame_Kernel : Cert.quiescent_Kernel := fun m ρ _ =>
  (θ_run Cert.Kernel.defs _ _).mono (fun _ h => ⟨fun c => (h.1 c).2, h.2⟩) (BitsRun.run_main (F := Bits) m ρ)

/-- The idealized kernel's frame. -/
theorem frame_KernelIdeal : Cert.quiescent_KernelIdeal := fun m ρ _ =>
  (θ_run Cert.KernelIdeal.defs _ _).mono (fun _ h => ⟨fun c => (h.1 c).2, h.2⟩) (IdealRun.run_main (F := Ideal) m ρ)

/-- The reference's frame. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the idealized kernel and the reference end with equal results. -/
theorem algebraic : Cert.algebraic_KernelIdeal_ReferenceIdeal := fun m g m' g' _ h =>
  ⟨fun c => fun _ => IdealRun.total (F := Ideal) m c,
    (θ_run Cert.KernelIdeal.defs _ _).mono (fun _ r => r.1) (IdealRun.run_main (F := Ideal) m g),
    (θ_run Cert.ReferenceIdeal.defs _ _).mono
      (fun _ r c => ⟨(r c).1.trans (((congrArg₂ Value.refTerm (h c).1 (h c).2)).trans (Value.total_eq_refTerm m c).symm), (r c).2⟩)
      (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
